-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S36864x64 : Shape := ⟨2, ![36864, 64]⟩
abbrev S8192x64 : Shape := ⟨2, ![8192, 64]⟩
abbrev S_ : Shape := ⟨0, ![]⟩

class Facts : Prop where
  bcast_S_S36864x64 : S_.BroadcastsInDim S36864x64 (![] : Fin 0 → Fin S36864x64.rank)
  reducesTo_S36864x64_S_d0_1 : S36864x64.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_

variable [Facts]

def fn {F : FTy → Type} [FloatOps F] (main_arg0 : FVec F S36864x64 .f32) (main_arg1 : FVec F S8192x64 .f32) : IVec S_ 1 :=
  let main_v0 : FVec F S36864x64 .f32 := Host.absf main_arg0
  let main_cst : FVec F S_ .f32 := constant S_ .f32 0x7F800000#32
  let main_v1 : FVec F S36864x64 .f32 := broadcastInDim S36864x64 ![] bcast_S_S36864x64 main_cst
  let main_v2 : IVec S36864x64 1 := cmpf .olt main_v0 main_v1
  let main_c : IVec S_ 1 := constantI S_ 1 1#1
  let main_v3 : IVec S_ 1 := (fun x v => Host.reduce IntOp.andi x v reducesTo_S36864x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S36864x64 : Shape := ⟨2, ![36864, 64]⟩
abbrev S8192x64 : Shape := ⟨2, ![8192, 64]⟩
abbrev S64x36864 : Shape := ⟨2, ![64, 36864]⟩
abbrev S64x8192 : Shape := ⟨2, ![64, 8192]⟩
abbrev S36864x8192 : Shape := ⟨2, ![36864, 8192]⟩
abbrev S64x512 : Shape := ⟨2, ![64, 512]⟩
abbrev S512x8192 : Shape := ⟨2, ![512, 8192]⟩
abbrev S68x8192 : Shape := ⟨2, ![68, 8192]⟩
abbrev S8192 : Shape := ⟨1, ![8192]⟩
abbrev S1x8192 : Shape := ⟨2, ![1, 8192]⟩
abbrev S512 : Shape := ⟨1, ![512]⟩
abbrev S1x512 : Shape := ⟨2, ![1, 512]⟩
abbrev S68x512 : Shape := ⟨2, ![68, 512]⟩

abbrev nBuf : Space → Nat
  | .hbm => 5
  | .vmem => 6
  | .smem => 0
  | _ => 0

abbrev bufTy : (tb : Table) → Fin (tcTables nBuf tb) → BufTy
  | .hbm, ⟨0, _⟩ => ⟨S36864x64, .f32⟩
  | .hbm, ⟨1, _⟩ => ⟨S8192x64, .f32⟩
  | .hbm, ⟨2, _⟩ => ⟨S64x36864, .f32⟩
  | .hbm, ⟨3, _⟩ => ⟨S64x8192, .f32⟩
  | .hbm, ⟨4, _⟩ => ⟨S36864x8192, .f32⟩
  | .local _ .vmem, ⟨0, _⟩ => ⟨S64x512, .f32⟩
  | .local _ .vmem, ⟨1, _⟩ => ⟨S64x512, .f32⟩
  | .local _ .vmem, ⟨2, _⟩ => ⟨S64x8192, .f32⟩
  | .local _ .vmem, ⟨3, _⟩ => ⟨S512x8192, .f32⟩
  | .local _ .vmem, ⟨4, _⟩ => ⟨S512x8192, .f32⟩
  | .local _ .vmem, ⟨5, _⟩ => ⟨S68x8192, .bf16⟩
  | _, _ => ⟨S36864x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S36864x64 : Shape := ⟨2, ![36864, 64]⟩
abbrev S8192x64 : Shape := ⟨2, ![8192, 64]⟩
abbrev S_ : Shape := ⟨0, ![]⟩
abbrev S36864 : Shape := ⟨1, ![36864]⟩
abbrev S36864x1 : Shape := ⟨2, ![36864, 1]⟩
abbrev S8192 : Shape := ⟨1, ![8192]⟩
abbrev S1x8192 : Shape := ⟨2, ![1, 8192]⟩
abbrev S64x8192 : Shape := ⟨2, ![64, 8192]⟩
abbrev S36864x8192 : Shape := ⟨2, ![36864, 8192]⟩

abbrev nBuf : Space → Nat
  | .hbm => 19
  | .vmem => 0
  | .smem => 0
  | _ => 0

abbrev bufTy : (tb : Table) → Fin (tcTables nBuf tb) → BufTy
  | .hbm, ⟨0, _⟩ => ⟨S36864x64, .f32⟩
  | .hbm, ⟨1, _⟩ => ⟨S8192x64, .f32⟩
  | .hbm, ⟨2, _⟩ => ⟨S36864x64, .f32⟩
  | .hbm, ⟨3, _⟩ => ⟨S_, .f32⟩
  | .hbm, ⟨4, _⟩ => ⟨S36864, .f32⟩
  | .hbm, ⟨5, _⟩ => ⟨S36864x1, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S64x8192, .f32⟩
  | .hbm, ⟨11, _⟩ => ⟨S36864x8192, .f32⟩
  | .hbm, ⟨12, _⟩ => ⟨S36864x8192, .f32⟩
  | .hbm, ⟨13, _⟩ => ⟨S36864x8192, .f32⟩
  | .hbm, ⟨14, _⟩ => ⟨S36864x8192, .f32⟩
  | .hbm, ⟨15, _⟩ => ⟨S_, .f32⟩
  | .hbm, ⟨16, _⟩ => ⟨S36864x8192, .f32⟩
  | .hbm, ⟨17, _⟩ => ⟨S36864x8192, .f32⟩
  | .hbm, ⟨18, _⟩ => ⟨S36864x8192, .f32⟩
  | _, _ => ⟨S36864x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Finite.lean ====
module

public import proofs.«01_k».proof.Proof.Gen.Pre_finite
public import Idealize.ShloMosaic.Lib.ReduceAll
public import Idealize.ShloMosaic.Lib.IdealHost

/-!
  The precondition, read off as a fact about the entries: where `finite encoding codebook` holds, every entry of both
  arrays is a real number.
-/

@[expose] public section

noncomputable section

namespace Cert.FiniteArgs

open Idealize.ShloMosaic

/-- An extended real whose absolute value, the greater of it and its negation, is below `⊤` is a real number. -/
theorem exists_real_of_abs_lt (x : EReal) (h : max x (-x) < ⊤) : ∃ r : ℝ, x = (r : EReal) := by
  induction x with
  | bot => simp at h
  | top => simp at h
  | coe r => exact ⟨r, rfl⟩

/-- The f32 bits of plus infinity are the extended real `⊤`. -/
theorem ofBits_inf : Ideal.ofBits .f32 0x7F800000#32 = ⊤ := by
  simp [Ideal.ofBits, Ideal.ieee]

/-- The comparison `|x| < inf`, as the precondition makes it of one entry, is true only of a real number. -/
theorem exists_real_of_cmp (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [ofBits_inf, Ideal.hostAbsf_def] at h
  refine exists_real_of_abs_lt x ?_
  by_contra hn
  simp only [Ideal.cmpf_def, Ideal.absf_def] at h
  simp [Ideal.cmp, hn] at h

/-- The precondition has one result, indexed by nothing. -/
instance : Subsingleton Cert.Pre_finite.S_.Idx := ⟨fun _ _ => funext fun a => a.elim0⟩

/-- Where the precondition holds, every entry of the encoding and every entry of the codebook is a real number. -/
theorem reals (e : FVec Ideal Cert.Pre_finite.S36864x64 .f32) (c : FVec Ideal Cert.Pre_finite.S8192x64 .f32)
    (h : Cert.Pre_finite.fn (F := Ideal) e c = fun _ => 1#1) :
    (∀ i, ∃ r : ℝ, e i = (r : EReal)) ∧ ∀ i, ∃ r : ℝ, c i = (r : EReal) := by
  have h0 := IntOp.andi_eq_one.1 (congrFun h (fun a => a.elim0))
  exact ⟨fun i => exists_real_of_cmp _ (Host.reduce_andi_all _ _ _ _ _ h0.1 i),
    fun i => exists_real_of_cmp _ (Host.reduce_andi_all _ _ _ _ _ h0.2 i)⟩

end Cert.FiniteArgs
-- ==== Proof.Algebra.lean ====
module

public import Mathlib.Data.EReal.Operations
public import Mathlib.Algebra.BigOperators.Fin
public import Mathlib.Tactic.Ring

/-!
  The equation behind the kernel, free of arrays: the product of two augmented columns of 68 entries is the squared
  distance of the two vectors of 64 entries they are made from.
-/

@[expose] public section

noncomputable section

namespace Cert.Distance

/-- The squared length of a vector of 64 entries. -/
def sq (x : Fin 64 → EReal) : EReal := ∑ q, x q * x q

/-- The squared distance of two vectors, expanded: the two squared lengths less twice the inner product. -/
def dist (e c : Fin 64 → EReal) : EReal := sq e + sq c - 2 * ∑ q, e q * c q

/-- The augmented column of an encoding row: the row times -2, then its squared length, the rest of the squared length
    (the length less its own copy), and two ones. -/
def augE (e : Fin 64 → EReal) (q : Fin 68) : EReal :=
  if h : q.val < 64 then -2 * e ⟨q.val, h⟩ else if q.val = 64 then sq e else if q.val = 65 then sq e - sq e else 1

/-- The augmented column of a codebook row: the row, two ones, then its squared length and the rest of that. -/
def augC (c : Fin 64 → EReal) (q : Fin 68) : EReal :=
  if h : q.val < 64 then c ⟨q.val, h⟩ else if q.val < 66 then 1 else if q.val = 66 then sq c else sq c - sq c

/-- The product of two augmented columns, its last four terms written out. -/
theorem sum_aug (e c : Fin 64 → EReal) :
    ∑ q, augE e q * augC c q
      = (∑ q, -2 * e q * c q) + sq e * 1 + (sq e - sq e) * 1 + 1 * sq c + 1 * (sq c - sq c) := by
  rw [Fin.sum_univ_castSucc, Fin.sum_univ_castSucc, Fin.sum_univ_castSucc, Fin.sum_univ_castSucc]
  have h : ∀ q : Fin 64, augE e q.castSucc.castSucc.castSucc.castSucc * augC c q.castSucc.castSucc.castSucc.castSucc
      = -2 * e q * c q := fun q => by
    simp [augE, augC]
  simp only [h]
  simp [augE, augC, Fin.last]

/-- The squared length of a real vector is a real number. -/
theorem sq_coe (r : Fin 64 → ℝ) : sq (fun q => (r q : EReal)) = ((∑ q, r q * r q : ℝ) : EReal) := by
  unfold sq
  push_cast
  rfl

/-- For real vectors the product of the augmented columns is the squared distance: the two remainders are zero. -/
theorem sum_aug_eq_dist (e c : Fin 64 → EReal) (he : ∀ q, ∃ r : ℝ, e q = r) (hc : ∀ q, ∃ r : ℝ, c q = r) :
    ∑ q, augE e q * augC c q = dist e c := by
  choose re he using he
  choose rc hc using hc
  obtain rfl : e = fun q => (re q : EReal) := funext he
  obtain rfl : c = fun q => (rc q : EReal) := funext hc
  rw [sum_aug, dist, sq_coe, sq_coe]
  have h1 : ∑ q, -2 * (re q : EReal) * (rc q : EReal) = ((-(2 * ∑ q, re q * rc q) : ℝ) : EReal) := by
    have h3 : ∑ q, -2 * re q * rc q = -(2 * ∑ q, re q * rc q) := by
      rw [Finset.mul_sum, ← Finset.sum_neg_distrib]; exact Finset.sum_congr rfl fun q _ => by ring
    rw [← h3]; push_cast; rfl
  have h2 : (2 : EReal) * ∑ q, (re q : EReal) * (rc q : EReal) = ((2 * ∑ q, re q * rc q : ℝ) : EReal) := by
    push_cast; rfl
  rw [h1, h2]
  norm_cast
  ring

/-- The squared length of a vector of infinite entries is `⊤`. -/
theorem sq_top : sq (fun _ => ⊤) = ⊤ := by
  simp [sq, EReal.mul_top_of_pos (show (0 : EReal) < 64 by norm_num)]

/-- The squared length of the vector of entries -1 is 64. -/
theorem sq_neg_one : sq (fun _ => -1) = 64 := by
  simp [sq]

/-- Reals are needed of the first vector: with infinite entries against -1 the augmented columns give `⊥`, through the
    remainder `⊤ - ⊤`, where the squared distance is `⊤`. -/
theorem sum_aug_ne_dist_left : ∑ q, augE (fun _ => ⊤) q * augC (fun _ => -1) q ≠ dist (fun _ => ⊤) (fun _ => -1) := by
  have h64 : (64 : EReal) * ⊥ = ⊥ := EReal.mul_bot_of_pos (by norm_num)
  have h2 : (2 : EReal) * ⊥ = ⊥ := EReal.mul_bot_of_pos (by norm_num)
  have hb : (64 : EReal) ≠ ⊥ := ne_of_gt (lt_trans EReal.bot_lt_zero (by norm_num))
  rw [sum_aug, dist, sq_top, sq_neg_one]
  simp [h64, h2, EReal.top_add_of_ne_bot hb, EReal.add_top_of_ne_bot hb, EReal.sub_bot]

/-- Reals are needed of the second vector too, by the same remainder. -/
theorem sum_aug_ne_dist_right : ∑ q, augE (fun _ => -1) q * augC (fun _ => ⊤) q ≠ dist (fun _ => -1) (fun _ => ⊤) := by
  have h64 : (64 : EReal) * ⊥ = ⊥ := EReal.mul_bot_of_pos (by norm_num)
  have h2 : (2 : EReal) * ⊥ = ⊥ := EReal.mul_bot_of_pos (by norm_num)
  have hb : (64 : EReal) ≠ ⊥ := ne_of_gt (lt_trans EReal.bot_lt_zero (by norm_num))
  rw [sum_aug, dist, sq_top, sq_neg_one]
  simp [h64, h2, EReal.top_add_of_ne_bot hb, EReal.add_top_of_ne_bot hb, EReal.sub_bot]

end Cert.Distance
-- ==== Proof.Payload.lean ====
module

public import proofs.«01_k».proof.Proof.Algebra
public import proofs.«01_k».proof.Proof.Gen.KernelIdeal.Skeleton
public import Idealize.ShloMosaic.Lib.Pointwise
public import Idealize.ShloMosaic.Lib.IdealHost

/-!
  What one block computes. The kernel's two stored values, read at one index: the augmented codebook it keeps in
  scratch, and the block of the result, a product of 68 terms.
-/

@[expose] public section

noncomputable section

namespace Cert.Distance

open Idealize.ShloMosaic Cert.KernelIdeal Cert.KernelIdeal.Gen

/-- The f32 bits of minus two are the extended real -2. -/
theorem ofBits_neg_two : Ideal.ofBits .f32 0xC0000000#32 = -2 := by
  simp [Ideal.ofBits, Ideal.ieee, -EReal.coe_mul]
  norm_num
  norm_cast

/-- The value stored into the scratch, at entry `(q, k)`: entry `q` of the augmented column of codebook row `k`, which
    is column `k` of the transposed codebook `x`. -/
theorem pay1_apply (x : Vec Ideal S64x8192 .f32) (q : Fin 68) (k : Fin 8192) :
    k0_pay1 x (ix2 q k) = augC (fun p => x (ix2 p k)) q := by
  unfold k0_pay1
  pointwise
  unfold augC sq
  have := q.isLt
  split_ifs <;> first | rfl | omega

/-- The value stored into the result's block, at entry `(r, k)`: the product of the augmented column of encoding row
    `r`, column `r` of the transposed block `x`, with column `k` of the scratch `s`. -/
theorem pay2_apply (x : Vec Ideal S64x512 .f32) (s : Vec Ideal S68x8192 .bf16) (r : Fin 512) (k : Fin 8192) :
    k0_pay2 x s (ix2 r k) = ∑ q, augE (fun p => x (ix2 p r)) q * s (ix2 q k) := by
  unfold k0_pay2
  pointwise [dot_S68x512_S68x8192_S512x8192_0_0_1_1_n_n, ofBits_neg_two]
  refine Finset.sum_congr rfl fun q _ => congrArg (· * s (ix2 q k)) ?_
  unfold augE sq
  have := q.isLt
  split_ifs <;> first | rfl | omega

end Cert.Distance
-- ==== Proof.Cases.lean ====
module

public import proofs.«01_k».proof.Proof.Gen.KernelIdeal.Frame
public import Idealize.ShloMosaic.Lib.Pipeline.Value
public import Idealize.ShloMosaic.Lib.Tactic

/-!
  What the kernel's body leaves behind at one grid point, as values: at the first point it builds the augmented codebook
  and multiplies by it, at every later point it multiplies by the augmented codebook it finds in scratch.
-/

@[expose] public section

noncomputable section

namespace Cert.Distance

open Idealize.ShloMosaic Cert.KernelIdeal Cert.KernelIdeal.Gen

variable {F : FTy → Type} [FloatOps F]

/-- The origin of a rank 2 array, written as a list, is the zero offset. -/
theorem origin : (![0, 0] : Fin 2 → ℕ) = fun _ => 0 := by
  funext a
  match a with
  | 0 => rfl
  | 1 => rfl

section

variable (c : Dev nD) (i : grid0.Coords) (a1 : Memref sig .tc .vmem S64x512 .f32) (h1 : a1.IsWhole)
  (a2 : Memref sig .tc .vmem S64x8192 .f32) (h2 : a2.IsWhole) (a3 : Memref sig .tc .vmem S512x8192 .f32) (h3 : a3.IsWhole)
  (a4 : Memref sig .tc .vmem S68x8192 .bf16) (h4 : a4.IsWhole) (x0 : Vec F S64x512 .f32) (x1 : Vec F S64x8192 .f32)

/-- At the first point the scratch is left at the augmented codebook. -/
theorem scratch_first (hc : cond0_0 i) : sout0_A_0 c i a1 h1 a2 h2 a3 h3 a4 h4 hc x0 x1 = k0_pay1 x1 := by
  unfold sout0_A_0
  rw [View.read_writes_eq_canon _ _ _ (scover0_A_0 c i a1 h1 a2 h2 a3 h3 a4 h4 hc x0 x1)]
  unfold kernelRun0_A
  dsimp only
  sl_unfold_words
  rw [View.canon_unit_zero origin]
  simp only [View.readAt_eq_ld, h2.read_unread, View.ld_unit_zero (S := S64x8192) origin]

/-- At the first point the result's block is left at the product by the augmented codebook just built. -/
theorem block_first (hc : cond0_0 i) : out0_A_2 c i a1 h1 a2 h2 a3 h3 a4 h4 hc x0 x1 = k0_pay2 x0 (k0_pay1 x1) := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero origin, View.readCov_unit_zero (S := S68x8192) _ origin]
  simp only [View.readAt_eq_ld, h1.read_unread, h2.read_unread, View.ld_unit_zero (S := S64x512) origin,
    View.ld_unit_zero (S := S64x8192) origin]

/-- At a later point the result's block is left at the product by what the scratch holds. -/
theorem block_later (hc : ¬cond0_0 i) (s : Vec F S68x8192 .bf16) :
    out0_B_2 c i a1 h1 a2 h2 a3 h3 a4 h4 hc x0 x1 s = k0_pay2 x0 s := by
  unfold out0_B_2
  rw [View.read_writes_eq_canon _ _ _ (cover0_B_2 c i a1 h1 a2 h2 a3 h3 a4 h4 hc x0 x1 s)]
  unfold kernelRun0_B
  dsimp only
  rw [View.canon_unit_zero origin]
  simp only [View.readAt_eq_ld, h1.read_unread, h4.read_unread, View.ld_unit_zero (S := S64x512) origin,
    View.ld_unit_zero (S := S68x8192) origin]

end

end Cert.Distance
-- ==== Proof.Array.lean ====
module

public import proofs.«01_k».proof.Proof.Payload
public import proofs.«01_k».proof.Proof.Cases
public import proofs.«01_k».proof.Proof.Gen.KernelIdeal.Value

/-!
  What the kernel's result array holds. The input blocks are read as entries of the two arguments; the scratch holds the
  augmented codebook after every point; so entry `(n, k)` of the result is the 68-term product of the augmented columns
  of encoding row `n` and codebook row `k`.
-/

@[expose] public section

noncomputable section

namespace Cert.Distance

open Idealize.ShloMosaic Idealize.ShloMosaic.TcCoe Cert.KernelIdeal Cert.KernelIdeal.Gen

variable (m : (ℓ : Loc nD τ sig) → Buf (Elt Ideal) ℓ) (c : Dev nD)

/-- The encoding, as launched. -/
abbrev encoding : Vec Ideal S36864x64 .f32 := m ((c : Thread nD τ).loc main_arg0)

/-- The codebook, as launched. -/
abbrev codebook : Vec Ideal S8192x64 .f32 := m ((c : Thread nD τ).loc main_arg1)

/-- The kernel's first operand is the encoding transposed. -/
theorem operand_encoding :
    V m c main_v0 = transpose S64x36864 [1, 0] (encoding m c) transposes_S36864x64_S64x36864_1_0 := by
  dsimp only [V, hostOps0]
  after_results

/-- The kernel's second operand is the codebook transposed. -/
theorem operand_codebook :
    V m c main_v1 = transpose S64x8192 [1, 0] (codebook m c) transposes_S8192x64_S64x8192_1_0 := by
  dsimp only [V, hostOps0]
  after_results

/-- The encoding's block moves along the columns of the transposed encoding, one block per point. -/
theorem index_encoding : ∀ t : Fin cfg0.N, win0_0.index t (0 : Fin 2) = 0 ∧ win0_0.index t (1 : Fin 2) = t.val := by
  decide +kernel

/-- The codebook's block never moves. -/
theorem index_codebook : ∀ t : Fin cfg0.N, win0_1.index t (0 : Fin 2) = 0 ∧ win0_1.index t (1 : Fin 2) = 0 := by
  decide +kernel

/-- Row `512 t + r` of the encoding, for point `t` and row `r` of its block. -/
def row (t : Fin cfg0.N) (r : Fin 512) : Fin 36864 :=
  ⟨512 * t.val + r.val, by have := Nat.lt_of_lt_of_eq t.isLt N_0; have := r.isLt; omega⟩

/-- Entry `(p, r)` of the encoding's block at point `t` is entry `p` of encoding row `512 t + r`. -/
theorem block_encoding (t : Fin cfg0.N) (p : Fin 64) (r : Fin 512) :
    (iblk m c 0 t : Vec Ideal S64x512 .f32) (ix2 p r) = encoding m c (ix2 (row t r) p) := by
  obtain ⟨e0, e1⟩ := index_encoding t
  have hv : (iblk m c 0 t : Vec Ideal S64x512 .f32) (ix2 p r) = (V m c main_v0 : Vec Ideal S64x36864 .f32) (ix2 p (row t r)) := by
    unfold iblk
    rw [View.read_apply]
    show V m c main_v0 _ = _
    congr 1
    funext a
    apply Fin.ext
    match a with
    | ⟨0, _⟩ =>
      show win0_0.index t (0 : Fin 2) * 64 + 1 * p.val = p.val
      rw [e0]; omega
    | ⟨1, _⟩ =>
      show win0_0.index t (1 : Fin 2) * 512 + 1 * r.val = 512 * t.val + r.val
      rw [e1]; omega
  rw [hv, operand_encoding]
  pointwise

/-- Entry `(p, k)` of the codebook's block, at every point, is entry `p` of codebook row `k`. -/
theorem block_codebook (t : Fin cfg0.N) (p : Fin 64) (k : Fin 8192) :
    (iblk m c 1 t : Vec Ideal S64x8192 .f32) (ix2 p k) = codebook m c (ix2 k p) := by
  obtain ⟨e0, e1⟩ := index_codebook t
  have hv : (iblk m c 1 t : Vec Ideal S64x8192 .f32) (ix2 p k) = (V m c main_v1 : Vec Ideal S64x8192 .f32) (ix2 p k) := by
    unfold iblk
    rw [View.read_apply]
    show V m c main_v1 _ = _
    congr 1
    funext a
    apply Fin.ext
    match a with
    | ⟨0, _⟩ =>
      show win0_1.index t (0 : Fin 2) * 64 + 1 * p.val = p.val
      rw [e0]; omega
    | ⟨1, _⟩ =>
      show win0_1.index t (1 : Fin 2) * 8192 + 1 * k.val = k.val
      rw [e1]; omega
  rw [hv, operand_codebook]
  pointwise

/-- The augmented codebook: column `k` is the augmented column of codebook row `k`. -/
def augmented : Vec Ideal S68x8192 .bf16 := fun j => augC (fun p => codebook m c (ix2 (j 1) p)) (j 0)

/-- The value the first point stores into the scratch is the augmented codebook. -/
theorem pay1_codebook (t : Fin cfg0.N) : k0_pay1 (iblk m c 1 t : Vec Ideal S64x8192 .f32) = augmented m c := by
  funext j
  rw [eq_ix2 j]
  refine (pay1_apply _ _ _).trans (congrArg (augC · _) (funext fun p => ?_))
  exact block_codebook m c t p (j 1)

/-- After every point the scratch holds the augmented codebook, by induction on the point. -/
theorem scratch_eq : ∀ (n : ℕ) (hn : n < cfg0.N), (outsAt0 m c n hn).2 = augmented m c
  | 0, hn => by
    rw [outsAt0_A m c ⟨0, hn⟩ rfl]
    dsimp only
    rw [scratch_first, pay1_codebook]
  | n + 1, hn => by
    have hN : n + 1 < 72 := Nat.lt_of_lt_of_eq hn N_0
    rw [outsAt0_B m c ⟨n + 1, hn⟩ (by dsimp only; omega)]
    dsimp only [sout0_B_0]
    exact scratch_eq n _

/-- After every point the result's block is the product of the encoding's block by the augmented codebook. -/
theorem block_eq (t : Fin cfg0.N) :
    (outsAt0 m c t.val t.isLt).1 = k0_pay2 (iblk m c 0 t : Vec Ideal S64x512 .f32) (augmented m c) := by
  by_cases h : t.val % 72 = 0
  · rw [outsAt0_A m c t h]
    dsimp only
    rw [block_first, pay1_codebook]
  · rw [outsAt0_B m c t h]
    dsimp only
    rw [block_later, scratch_eq]

/-- Entry `(r, k)` of the result's block after point `t`: the product of the augmented columns of encoding row
    `512 t + r` and codebook row `k`. -/
theorem block_apply (t : Fin cfg0.N) (r : Fin 512) (k : Fin 8192) :
    (outsAt0 m c t.val t.isLt).1 (ix2 r k)
      = ∑ q, augE (fun p => encoding m c (ix2 (row t r) p)) q * augC (fun p => codebook m c (ix2 k p)) q := by
  rw [block_eq]
  refine (pay2_apply _ _ _ _).trans (Finset.sum_congr rfl fun q _ => ?_)
  have e : (fun p => (iblk m c 0 t : Vec Ideal S64x512 .f32) (ix2 p r)) = fun p => encoding m c (ix2 (row t r) p) :=
    funext fun p => block_encoding m c t p r
  rw [e]
  rfl

/-- Entry `(n, k)` of the kernel's result: the product of the augmented columns of encoding row `n` and codebook row
    `k`. -/
theorem kernel_apply (n : Fin 36864) (k : Fin 8192) :
    (Cert.KernelIdeal.Value.G2 m c : Vec Ideal S36864x8192 .f32) (ix2 n k)
      = ∑ q, augE (fun p => encoding m c (ix2 n p)) q * augC (fun p => codebook m c (ix2 k p)) q := by
  have hn := n.isLt
  have hk := k.isLt
  have hp : Cert.KernelIdeal.Value.pt2Of (ix2 n k) = n.val / 512 := by
    show 1 * (n.val / 512 - 0) + 1 * (k.val / 8192 - 0) = n.val / 512
    omega
  have ht : Cert.KernelIdeal.Value.pt2Of (ix2 n k) < cfg0.N := by
    rw [hp, show cfg0.N = 72 from N_0]; omega
  have hl : Cert.KernelIdeal.Value.loc2Of (ix2 n k) = ix2 ⟨n.val % 512, Nat.mod_lt _ (by decide)⟩ k := by
    refine (eq_ix2 _).trans ?_
    congr 1
    exact Fin.ext (Nat.mod_eq_of_lt hk)
  have hr : row ⟨_, ht⟩ ⟨n.val % 512, Nat.mod_lt _ (by decide)⟩ = n := Fin.ext (by
    show 512 * Cert.KernelIdeal.Value.pt2Of (ix2 n k) + n.val % 512 = n.val
    rw [hp]; omega)
  refine (dif_pos ht).trans ?_
  rw [← Cert.KernelIdeal.Value.outsAt0_sweep m c _ ht, hl]
  refine (block_apply m c ⟨_, ht⟩ _ k).trans ?_
  rw [hr]

end Cert.Distance
-- ==== Proof.Ref.lean ====
module

public import proofs.«01_k».proof.Proof.Algebra
public import proofs.«01_k».proof.Proof.Gen.ReferenceIdeal.Read
public import Idealize.ShloMosaic.Lib.Pointwise
public import Idealize.ShloMosaic.Lib.IdealHost

/-!
  What the reference computes: entry `(n, k)` of its result is the expanded squared distance of row `n` of the encoding
  and row `k` of the codebook.
-/

@[expose] public section

noncomputable section

namespace Cert.Distance

open Idealize.ShloMosaic Cert.ReferenceIdeal Cert.ReferenceIdeal.Read

/-- The f32 bits of two are the extended real 2. -/
theorem ofBits_two : Ideal.ofBits .f32 0x40000000#32 = 2 := by
  simp [Ideal.ofBits, Ideal.ieee, -EReal.coe_mul]
  norm_num
  norm_cast

/-- The reference's result at `(n, k)` is the squared distance of encoding row `n` and codebook row `k`. -/
theorem ref_apply (e : Vec Ideal S36864x64 .f32) (c : Vec Ideal S8192x64 .f32) (n : Fin 36864) (k : Fin 8192) :
    val_main_v13 (F := Ideal) e c (ix2 n k) = dist (fun q => e (ix2 n q)) (fun q => c (ix2 k q)) := by
  have h1 : ∀ q, idx_main_v1 (idx_main_v2 (idx_main_v8 (ix2 n k))) q = ix2 n q := fun q => eq_ix2 _
  have h2 : ∀ q, idx_main_v4 (idx_main_v5 (idx_main_v9 (ix2 n k))) q = ix2 k q := fun q => eq_ix2 _
  have h3 : ∀ q, lidx_main_v7 (ix2 n k) q = ix2 n q := fun q => eq_ix2 _
  have h4 : ∀ q, idx_main_v6 (ridx_main_v7 (ix2 n k) q) = ix2 k q := fun q => eq_ix2 _
  simp only [val_main_v13_apply, val_main_v10_apply, val_main_v12_apply, val_main_v8_apply, val_main_v2_apply,
    val_main_v1_apply, val_main_v9_apply, val_main_v5_apply, val_main_v4_apply, val_main_v11_apply, val_main_cst_1_apply,
    val_main_v7_apply, val_main_v6_apply, val_main_v0_apply, val_main_v3_apply, val_main_cst_apply, val_main_cst_0_apply,
    h1, h2, h3, h4]
  simp only [Ideal.ofBits_def, ofBits_two, Ideal.ofBits_zero_f32, zero_add, Ideal.addf_def, Ideal.mulf_def, Ideal.subf_def]
  rfl

end Cert.Distance
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_finite
public import proofs.«01_k».proof.Proof.Gen.ReferenceIdeal.Run
public import proofs.«01_k».proof.Proof.Gen.ReferenceIdeal.Read
public import proofs.«01_k».proof.Proof.Finite
public import proofs.«01_k».proof.Proof.Array
public import proofs.«01_k».proof.Proof.Ref
public import Idealize.ShloMosaic.Adequacy
public import Idealize.ShloMosaic.Init
public import Idealize.ShloMosaic.Lib.Quiescent

/-!
  The proof of the certificate's claim. Each frame is the program's generated frame, or the reference's run weakened. The
  value claim puts three facts side by side: what the kernel's result holds at an index (Proof/Array.lean), what the
  reference's result is there (Proof/Ref.lean), and that the two agree on real entries (Proof/Algebra.lean), which the
  precondition grants (Proof/Finite.lean).
-/

@[expose] public section

noncomputable section

namespace Cert.Proof

open Idealize.ShloMosaic Idealize.ShloMosaic.TcCoe Idealize.SL.Sem

/-- The reference runs to its end from every memory, its arguments unchanged and its counters at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On arguments whose entries are all real, the kernel's result array is the reference's result, entry by entry the
    squared distance of an encoding row and a codebook row. -/
theorem kernel_eq_ref (m : (ℓ : Loc Cert.KernelIdeal.nD Cert.KernelIdeal.τ Cert.KernelIdeal.sig) → Buf (Elt Ideal) ℓ)
    (c : Dev Cert.KernelIdeal.nD)
    (hp : Cert.Pre_finite.fn (F := Ideal) (Cert.Distance.encoding m c) (Cert.Distance.codebook m c) = fun _ => 1#1) :
    Cert.ReferenceIdeal.Read.val_main_v13 (F := Ideal) (Cert.Distance.encoding m c) (Cert.Distance.codebook m c)
      = Cert.KernelIdeal.Value.G2 m c := by
  obtain ⟨he, hc⟩ := Cert.FiniteArgs.reals _ _ hp
  funext i
  obtain ⟨n, k, rfl⟩ : ∃ (n : Fin 36864) (k : Fin 8192), i = ix2 n k := ⟨i 0, i 1, eq_ix2 i⟩
  refine (Cert.Distance.ref_apply _ _ n k).trans ?_
  refine (Cert.Distance.sum_aug_eq_dist _ _ (fun q => he _) (fun q => hc _)).symm.trans ?_
  exact (Cert.Distance.kernel_apply m c n k).symm

/-- The value claim: from memories that agree on the arguments, all of whose entries are real, the kernel and the
    reference end with equal results. -/
theorem algebraic_KernelIdeal_ReferenceIdeal_pre_finite : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, (hagree c).1, (hagree c).2]
  exact (Cert.ReferenceIdeal.Read.val_main_v13_eq _ _).trans (kernel_eq_ref m c (hpre c))

/-- Everything claimed. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, quiescent_ReferenceIdeal, fun m ρ _ => quiescent_ReferenceIdeal m ρ trivial,
    (trivial : preserves_Kernel_KernelIdeal), algebraic_KernelIdeal_ReferenceIdeal_pre_finite⟩

end Cert.Proof

end
